-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32x1 : Shape := ⟨2, ![32, 1]⟩
abbrev S1024x1024 : Shape := ⟨2, ![1024, 1024]⟩
abbrev S1024 : Shape := ⟨1, ![1024]⟩
abbrev S1024x1024x32 : Shape := ⟨3, ![1024, 1024, 32]⟩
abbrev S1024x32 : Shape := ⟨2, ![1024, 32]⟩
abbrev S1x32x1x1 : Shape := ⟨4, ![1, 32, 1, 1]⟩
abbrev S1x32x128x1 : Shape := ⟨4, ![1, 32, 128, 1]⟩
abbrev S32x128 : Shape := ⟨2, ![32, 128]⟩
abbrev S1024x1 : Shape := ⟨2, ![1024, 1]⟩
abbrev S16x1024x32 : Shape := ⟨3, ![16, 1024, 32]⟩
abbrev S16x1024 : Shape := ⟨2, ![16, 1024]⟩
abbrev S16x32 : Shape := ⟨2, ![16, 32]⟩
abbrev S16x1 : Shape := ⟨2, ![16, 1]⟩
abbrev S16384x32 : Shape := ⟨2, ![16384, 32]⟩
abbrev S16x1x128 : Shape := ⟨3, ![16, 1, 128]⟩
abbrev S16384x128 : Shape := ⟨2, ![16384, 128]⟩
abbrev S16x1024x128 : Shape := ⟨3, ![16, 1024, 128]⟩
abbrev S16x128 : Shape := ⟨2, ![16, 128]⟩
abbrev S16 : Shape := ⟨1, ![16]⟩
abbrev S128x1024 : Shape := ⟨2, ![128, 1024]⟩
abbrev S128x1 : Shape := ⟨2, ![128, 1]⟩
abbrev S4096x128 : Shape := ⟨2, ![4096, 128]⟩
abbrev S4096x1 : Shape := ⟨2, ![4096, 1]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S32x1, .f32⟩
  | .hbm, ⟨2, _⟩ => ⟨S1024x1024, .f32⟩
  | .hbm, ⟨3, _⟩ => ⟨S1024, .f32⟩
  | .hbm, ⟨4, _⟩ => ⟨S1024x1024x32, .f32⟩
  | .hbm, ⟨5, _⟩ => ⟨S1024x32, .f32⟩
  | .hbm, ⟨6, _⟩ => ⟨S1x32x1x1, .f32⟩
  | .hbm, ⟨7, _⟩ => ⟨S1x32x128x1, .f32⟩
  | .hbm, ⟨8, _⟩ => ⟨S32x128, .f32⟩
  | .hbm, ⟨9, _⟩ => ⟨S1024x1, .f32⟩
  | .hbm, ⟨10, _⟩ => ⟨S1024x1024, .f32⟩
  | .hbm, ⟨11, _⟩ => ⟨S1024x1, .f32⟩
  | .hbm, ⟨12, _⟩ => ⟨S4096x1024, .f32⟩
  | .local _ .vmem, ⟨0, _⟩ => ⟨S32x128, .f32⟩
  | .local _ .vmem, ⟨1, _⟩ => ⟨S16x1024x32, .f32⟩
  | .local _ .vmem, ⟨2, _⟩ => ⟨S16x1024x32, .f32⟩
  | .local _ .vmem, ⟨3, _⟩ => ⟨S16x1024, .f32⟩
  | .local _ .vmem, ⟨4, _⟩ => ⟨S16x1024, .f32⟩
  | .local _ .vmem, ⟨5, _⟩ => ⟨S16x32, .f32⟩
  | .local _ .vmem, ⟨6, _⟩ => ⟨S16x32, .f32⟩
  | .local _ .vmem, ⟨7, _⟩ => ⟨S16x1, .f32⟩
  | .local _ .vmem, ⟨8, _⟩ => ⟨S16x1, .f32⟩
  | .local _ .vmem, ⟨9, _⟩ => ⟨S16x1024, .f32⟩
  | .local _ .vmem, ⟨10, _⟩ => ⟨S16x1024, .f32⟩
  | .local _ .vmem, ⟨11, _⟩ => ⟨S16x1, .f32⟩
  | .local _ .vmem, ⟨12, _⟩ => ⟨S16x1, .f32⟩
  | .local _ .vmem, ⟨13, _⟩ => ⟨S4096x1024, .f32⟩
  | .local _ .vmem, ⟨14, _⟩ => ⟨S128x1024, .f32⟩
  | .local _ .vmem, ⟨15, _⟩ => ⟨S128x1024, .f32⟩
  | .local _ .vmem, ⟨16, _⟩ => ⟨S128x1, .f32⟩
  | .local _ .vmem, ⟨17, _⟩ => ⟨S128x1, .f32⟩
  | .local _ .vmem, ⟨18, _⟩ => ⟨S4096x128, .f32⟩
  | .local _ .vmem, ⟨19, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x1024 : Shape := ⟨2, ![4096, 1024]⟩
abbrev S32x1 : Shape := ⟨2, ![32, 1]⟩
abbrev S1024x1024 : Shape := ⟨2, ![1024, 1024]⟩
abbrev S1024 : Shape := ⟨1, ![1024]⟩
abbrev S1024x1024x32 : Shape := ⟨3, ![1024, 1024, 32]⟩
abbrev S1024x32 : Shape := ⟨2, ![1024, 32]⟩
abbrev S1024x1024x1 : Shape := ⟨3, ![1024, 1024, 1]⟩
abbrev S1024x1 : Shape := ⟨2, ![1024, 1]⟩
abbrev S1x1024 : Shape := ⟨2, ![1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32x1, .f32⟩
  | .hbm, ⟨2, _⟩ => ⟨S1024x1024, .f32⟩
  | .hbm, ⟨3, _⟩ => ⟨S1024, .f32⟩
  | .hbm, ⟨4, _⟩ => ⟨S1024x1024x32, .f32⟩
  | .hbm, ⟨5, _⟩ => ⟨S1024x32, .f32⟩
  | .hbm, ⟨6, _⟩ => ⟨S1024x1024x1, .f32⟩
  | .hbm, ⟨7, _⟩ => ⟨S1024x1024, .f32⟩
  | .hbm, ⟨8, _⟩ => ⟨S1024x1024, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Payload.lean ====
/- What one grid point of either call computes, read at an index, over the extended reals.
   The first call multiplies its rows with 128 equal columns and then picks, in the row's own column, the one
   entry it wants: multiply by a 0/1 diagonal and sum. `pick` is that selection; the rest are the stored values. -/
module

public import proofs.«01_k».proof.Proof.Gen.KernelIdeal.Skeleton
public import Idealize.ShloMosaic.Lib.Pointwise

@[expose] public section

set_option maxRecDepth 16384

noncomputable section

namespace Cert.KernelIdeal.Payload

open Cert.KernelIdeal Cert.KernelIdeal.Gen Idealize.ShloMosaic Idealize.ShloMosaic.TcCoe Idealize.SL.Sem

/-- The diagonal's entry at row `a`, column `b`, as the kernel builds it (the comparison's bit widened to a word and
    converted): one where the two numbers agree, zero elsewhere. -/
theorem diagonal (a b : ℕ) (ha : a < 128) (hb : b < 128) :
    (FloatOps.sitofp (F := Ideal) FTy.f32 (BitVec.setWidth 32 (IntOp.cmpi CmpIPredicate.eq (BitVec.ofNat 32 a) (BitVec.ofNat 32 b))) : EReal)
      = if b = a then 1 else 0 := by
  show (((BitVec.setWidth 32 (IntOp.cmpi CmpIPredicate.eq (BitVec.ofNat 32 a) (BitVec.ofNat 32 b))).toInt : ℝ) : EReal) = _
  by_cases h : b = a
  · subst h
    have e : IntOp.cmpi CmpIPredicate.eq (BitVec.ofNat 32 b) (BitVec.ofNat 32 b) = 1#1 := by simp [IntOp.cmpi]
    rw [e, if_pos rfl]
    simp
  · have hne : BitVec.ofNat 32 a ≠ BitVec.ofNat 32 b := fun e => h (by
      have := congrArg BitVec.toNat e
      simp only [BitVec.toNat_ofNat] at this
      omega)
    have e : IntOp.cmpi CmpIPredicate.eq (BitVec.ofNat 32 a) (BitVec.ofNat 32 b) = 0#1 := by
      show BitVec.ofBool (BitVec.ofNat 32 a == BitVec.ofNat 32 b) = 0#1
      rw [beq_false_of_ne hne]
      rfl
    rw [e, if_neg h]
    simp

/-- A row of 128 extended reals times the diagonal's row, summed, is the entry in that row's column: a product with
    zero is zero, infinite factors included. -/
theorem pick (f : Fin 128 → EReal) (o : Fin 16) :
    (∑ x : Fin 128, f x * (FloatOps.sitofp (F := Ideal) FTy.f32 (BitVec.setWidth 32
        (IntOp.cmpi CmpIPredicate.eq (BitVec.ofNat 32 ↑o) (BitVec.ofNat 32 ↑x))) : EReal))
      = f (Fin.castLE (by decide) o) := by
  rw [Finset.sum_eq_single (Fin.castLE (by decide) o : Fin 128)]
  · rw [diagonal _ _ (by omega) (Fin.isLt _), if_pos (Fin.val_castLE _ _), mul_one]
  · intro x _ hx
    have hne : ¬ x.val = o.val := fun e => hx (Fin.ext e)
    rw [diagonal _ _ (by omega) x.isLt, if_neg hne, mul_zero]
  · exact fun h => absurd (Finset.mem_univ _) h

/-- What the first call stores into its block of weights: the row's inner product with the column that has the row's
    number, plus the frozen weight. -/
theorem ray_weight (x1 : FVec Ideal S16x1024x32 .f32) (x0 : FVec Ideal S32x128 .f32) (x2 : FVec Ideal S16x1024 .f32)
    (o : Fin 16) (i : Fin 1024) :
    k0_pay1 (F := Ideal) x1 x0 x2 (ix2 o i)
      = (∑ d : Fin 32, x1 (ix3 o i d) * x0 (ix2 d (Fin.castLE (by decide) o))) + x2 (ix2 o i) := by
  pointwise [k0_pay1]
  exact congrArg (· + _) (pick (fun x => ∑ d : Fin 32, x1 (ix3 o i d) * x0 (ix2 d x)) o)

/-- What the first call stores into its block of biases: likewise. -/
theorem ray_bias (x0 : FVec Ideal S32x128 .f32) (x3 : FVec Ideal S16x32 .f32) (x4 : FVec Ideal S16x1 .f32) (o : Fin 16) :
    k0_pay2 (F := Ideal) x0 x3 x4 (ix2 o 0)
      = (∑ d : Fin 32, x3 (ix2 o d) * x0 (ix2 d (Fin.castLE (by decide) o))) + x4 (ix2 o 0) := by
  pointwise [k0_pay2]
  exact congrArg (· + _) (pick (fun x => ∑ d : Fin 32, x3 (ix2 o d) * x0 (ix2 d x)) o)

/-- What the second call stores: the inner product of an input row with a weight row, plus that row's bias (which the
    kernel adds as a product with a column of ones, of one contraction position). -/
theorem mm_block (x0 : FVec Ideal S4096x1024 .f32) (x1 : FVec Ideal S128x1024 .f32) (x2 : FVec Ideal S128x1 .f32)
    (n : Fin 4096) (o : Fin 128) :
    k1_pay1 (F := Ideal) x0 x1 x2 (ix2 n o) = (∑ i : Fin 1024, x0 (ix2 n i) * x1 (ix2 o i)) + x2 (ix2 o 0) := by
  pointwise [k1_pay1]
  exact congrArg (_ + ·) (Fin.sum_univ_one fun x : Fin 1 => x2 (ix2 o x))

end Cert.KernelIdeal.Payload

end
-- ==== Proof.Spec.lean ====
/- The mathematics of the layer, index by index, over the extended reals:
   `weight r i = Σ_d R_w r i d · V d + W0 r i`, `bias r = Σ_d R_b r d · V d + b0 r`, `out n r = Σ_i x n i · weight r i + bias r`;
   and: the reference's composed term is `out`. -/
module

public import proofs.«01_k».proof.Proof.Gen.ReferenceIdeal.Run
public import Idealize.ShloMosaic.Lib.Pointwise

@[expose] public section

set_option maxRecDepth 16384

noncomputable section

namespace Cert.ReferenceIdeal.Spec

open Cert.ReferenceIdeal Cert.ReferenceIdeal.Gen Idealize.ShloMosaic Idealize.ShloMosaic.TcCoe Idealize.SL.Sem

/-- The layer's weights: the ray `R_w V` added to the frozen weights. -/
def weight (Rw : FVec Ideal S1024x1024x32 .f32) (V : FVec Ideal S32x1 .f32) (W0 : FVec Ideal S1024x1024 .f32)
    (r i : Fin 1024) : EReal :=
  (∑ d : Fin 32, Rw (ix3 r i d) * V (ix2 d 0)) + W0 (ix2 r i)

/-- The layer's biases: the ray `R_b V` added to the frozen biases. -/
def bias (Rb : FVec Ideal S1024x32 .f32) (V : FVec Ideal S32x1 .f32) (b0 : FVec Ideal S1024 .f32) (r : Fin 1024) : EReal :=
  (∑ d : Fin 32, Rb (ix2 r d) * V (ix2 d 0)) + b0 (ix1 r)

/-- The layer's result: `x Wᵀ + b`. -/
def out (x : FVec Ideal S4096x1024 .f32) (V : FVec Ideal S32x1 .f32) (W0 : FVec Ideal S1024x1024 .f32)
    (b0 : FVec Ideal S1024 .f32) (Rw : FVec Ideal S1024x1024x32 .f32) (Rb : FVec Ideal S1024x32 .f32) :
    FVec Ideal S4096x1024 .f32 := fun j =>
  (∑ i : Fin 1024, x (ix2 (j 0) i) * weight Rw V W0 (j 1) i) + bias Rb V b0 (j 1)

/-- The reference's result, as the composition of its host operations, is `out` of its arguments. -/
theorem ref_eq (x : FVec Ideal S4096x1024 .f32) (V : FVec Ideal S32x1 .f32) (W0 : FVec Ideal S1024x1024 .f32)
    (b0 : FVec Ideal S1024 .f32) (Rw : FVec Ideal S1024x1024x32 .f32) (Rb : FVec Ideal S1024x32 .f32) :
    addf (Host.dotGeneral dot_S4096x1024_S1024x1024_S4096x1024_1_0_0_1_n_n none x
        (transpose S1024x1024 [1, 0] (addf (shapeCast _ (Host.dotGeneral (φ₁ := .f32) (φ₂ := .f32) dot_S1024x1024x32_S32x1_S1024x1024x1_2_0_01_1_n_n none Rw V)
          shapeCasts_S1024x1024x1_S1024x1024) W0) transposes_S1024x1024_S1024x1024_1_0))
      (broadcastInDim S4096x1024 ![0, 1] bcast_S1x1024_S4096x1024_0_1 (broadcastInDim S1x1024 ![1] bcast_S1024_S1x1024_1
        (addf (shapeCast _ (Host.dotGeneral (φ₁ := .f32) (φ₂ := .f32) dot_S1024x32_S32x1_S1024x1_1_0_0_1_n_n none Rb V) shapeCasts_S1024x1_S1024) b0)))
      = out x V W0 b0 Rw Rb := by
  funext j
  idx_vars j
  pointwise [out, weight, bias]

end Cert.ReferenceIdeal.Spec

end
-- ==== Proof.Arrays.lean ====
/- The arrays that the two calls leave, as functions of the arguments.
   The host code tiles the trainable vector into 128 equal columns and makes a column of the frozen biases; the first
   call leaves the layer's weights and biases, sixteen rows per grid point; the second multiplies the inputs with the
   weights and adds the biases, 128 columns of the result per grid point. -/
module

public import proofs.«01_k».proof.Proof.Gen.KernelIdeal.Frame
public import proofs.«01_k».proof.Proof.Payload
public import proofs.«01_k».proof.Proof.Spec
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Cert.ReferenceIdeal.Spec (weight bias out)

variable (m : (ℓ : Loc nD τ sig) → Buf (Elt Ideal) ℓ) (ρ : Dev nD → PrngReg)

/-! ## What the host code hands the first call -/

/-- Every column of the tiled vector is the trainable vector. -/
theorem tiled (c : Dev nD) (d : Fin 32) (k : Fin 128) :
    (V1 m ρ c main_v2 : FVec Ideal S32x128 .f32) (ix2 d k) = (m ((c : Thread nD τ).loc main_arg1) : FVec Ideal S32x1 .f32) (ix2 d 0) := by
  have e : V1 m ρ c main_v2 = (shapeCast S32x128 (broadcastInDim S1x32x128x1 ![0, 1, 2, 3] bcast_S1x32x1x1_S1x32x128x1_0_1_2_3
      (shapeCast S1x32x1x1 (m ((c : Thread nD τ).loc main_arg1)) shapeCasts_S32x1_S1x32x1x1)) shapeCasts_S1x32x128x1_S32x128 : FVec Ideal S32x128 .f32) := by
    show StableHlo.after hostOps0 (W0 m ρ c) (Proc.devRef .tc main_v2) = _
    after_results <;> rfl
  rw [e]
  pointwise

/-- The column of frozen biases is the frozen biases. -/
theorem column (c : Dev nD) (r : Fin 1024) :
    (V1 m ρ c main_v3 : FVec Ideal S1024x1 .f32) (ix2 r 0) = (m ((c : Thread nD τ).loc main_arg3) : FVec Ideal S1024 .f32) (ix1 r) := by
  have e : V1 m ρ c main_v3 = (shapeCast S1024x1 (m ((c : Thread nD τ).loc main_arg3)) shapeCasts_S1024_S1024x1 : FVec Ideal S1024x1 .f32) := by
    show StableHlo.after hostOps0 (W0 m ρ c) (Proc.devRef .tc main_v3) = _
    after_results <;> rfl
  rw [e]
  pointwise

/-! ## The first call -/

/-- Where each window's block sits at each of the 64 points: the row blocks at the point's number, the vector fixed. -/
theorem idx0 : ∀ t : Fin cfg0.N, win0_0.index t = ![0, 0] ∧ win0_1.index t = ![t.val, 0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument array at the first call's entry is as launched. -/
theorem arg_at (c : Dev nD) (a : Ref sig .tc) (ha : a ∈ argRefs) : V1 m ρ c a = m ((c : Thread nD τ).loc a) := W1_args m ρ c a ha

/-- The vector's block is the tiled vector, at every point: so its every entry is the trainable vector's. -/
theorem vector_block (c : Dev nD) (t : Fin cfg0.N) (d : Fin 32) (k : Fin 128) :
    (iblk0 (V1 m ρ) c 0 t : FVec Ideal S32x128 .f32) (ix2 d k)
      = (m ((c : Thread nD τ).loc main_arg1) : FVec Ideal S32x1 .f32) (ix2 d 0) := by
  refine Eq.trans (b := (V1 m ρ c main_v2 : FVec Ideal S32x128 .f32) (ix2 d k)) ?_ (tiled m ρ c d k)
  blk_ext [iblk0, idx0 t]

/-- The first call leaves the layer's weights. -/
theorem weights (c : Dev nD) : (dat0 (V1 m ρ) c).arrAt 5 cfg0.N
    = (fun j => weight (m ((c : Thread nD τ).loc main_arg4)) (m ((c : Thread nD τ).loc main_arg1)) (m ((c : Thread nD τ).loc main_arg2)) (j 0) (j 1)
        : FVec Ideal S1024x1024 .f32) := by
  refine (dat0 (V1 m ρ) c).arrAt_eq_of_covers 5 _ (by decide +kernel) fun t _ y => ?_
  blk_simp
  rw [after0_5]; frame_out
  have hy : y = ix2 (y 0) (y 1) := eq_ix2 y
  refine (congrArg _ hy).trans ((Payload.ray_weight _ _ _ (y 0) (y 1)).trans ?_)
  refine congrArg₂ (· + ·) (Finset.sum_congr rfl fun d _ => congrArg₂ (· * ·) ?_ (vector_block m ρ c t d _)) ?_
  · refine Eq.trans ?_ (congrFun (arg_at m ρ c main_arg4 (by decide)) _)
    blk_ext [iblk0, idx0 t]
  · refine Eq.trans ?_ (congrFun (arg_at m ρ c main_arg2 (by decide)) _)
    blk_ext [iblk0, idx0 t]

/-- The first call leaves the layer's biases, as a column. -/
theorem biases (c : Dev nD) : (dat0 (V1 m ρ) c).arrAt 6 cfg0.N
    = (fun j => bias (m ((c : Thread nD τ).loc main_arg5)) (m ((c : Thread nD τ).loc main_arg1)) (m ((c : Thread nD τ).loc main_arg3)) (j 0)
        : FVec Ideal S1024x1 .f32) := by
  refine (dat0 (V1 m ρ) c).arrAt_eq_of_covers 6 _ (by decide +kernel) fun t _ y => ?_
  blk_simp
  rw [after0_6]; frame_out
  have hy : y = ix2 (y 0) 0 := (eq_ix2 y).trans (congrArg (ix2 (y 0)) (Subsingleton.elim (α := Fin 1) _ _))
  refine (congrArg _ hy).trans ((Payload.ray_bias _ _ _ (y 0)).trans ?_)
  refine congrArg₂ (· + ·) (Finset.sum_congr rfl fun d _ => congrArg₂ (· * ·) ?_ (vector_block m ρ c t d _)) ?_
  · refine Eq.trans ?_ (congrFun (arg_at m ρ c main_arg5 (by decide)) _)
    blk_ext [iblk0, idx0 t]
  · refine Eq.trans ?_ (column m ρ c _)
    blk_ext [iblk0, idx0 t]

/-! ## The second call -/

/-- Where each window's block sits at each of the eight points: the weights' and biases' row blocks and the result's
    column block at the point's number, the inputs whole. -/
theorem idx1 : ∀ t : Fin cfg1.N, win1_0.index t = ![0, 0] ∧ win1_1.index t = ![t.val, 0] ∧ win1_2.index t = ![t.val, 0]
    ∧ win1_3.index t = ![0, t.val] :=
  (by decide +kernel : ∀ t : Fin grid1.N, _)

/-- The second call finds the first one's results and the inputs as launched. -/
theorem entry1 (c : Dev nD) :
    V2 m ρ c main_arg0 = m ((c : Thread nD τ).loc main_arg0)
    ∧ V2 m ρ c main_v4_0 = (dat0 (V1 m ρ) c).arrAt 5 cfg0.N
    ∧ V2 m ρ c main_v4_1 = (dat0 (V1 m ρ) c).arrAt 6 cfg0.N :=
  ⟨W2_args m ρ c main_arg0 (by decide), W2_arr m ρ c 5, W2_arr m ρ c 6⟩

/-- The second call leaves the layer's result. -/
theorem result (c : Dev nD) : (dat1 (V2 m ρ) c).arrAt 3 cfg1.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dat1 (V2 m ρ) c).arrAt_eq_of_covers 3 _ (by decide +kernel) fun t _ y => ?_
  blk_simp
  rw [after1_3]; frame_out
  have hy : y = ix2 (y 0) (y 1) := eq_ix2 y
  refine (congrArg _ hy).trans ((Payload.mm_block _ _ _ (y 0) (y 1)).trans ?_)
  obtain ⟨hx, hw, hb⟩ := entry1 m ρ c
  refine congrArg₂ (· + ·) (Finset.sum_congr rfl fun i _ => congrArg₂ (· * ·) ?_ ?_) ?_
  · refine Eq.trans ?_ (congrFun hx _)
    blk_ext [iblk1, idx1 t]
  · refine Eq.trans ?_ (congrFun (hw.trans (weights m ρ c)) (ix2 _ i))
    blk_ext [iblk1, idx1 t]
  · refine Eq.trans ?_ (congrFun (hb.trans (biases m ρ c)) (ix2 _ 0))
    blk_ext [iblk1, idx1 t]

end Cert.KernelIdeal.Arrays

end
-- ==== Proof.Run.lean ====
/- The idealized kernel's run: it ends with its result at what the second call leaves, the arguments as launched. -/
module

public import proofs.«01_k».proof.Proof.Arrays

@[expose] public section

set_option maxRecDepth 16384

noncomputable section

namespace Cert.KernelIdeal.Arrays

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Spec (out)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution of the program terminates with every buffer outside the calls' own at the contents `W3`, the fold of
    the host operations and of what the two calls leave: the launch over the program's three segments. -/
theorem run_buffers : θ_run defs (onTc (τ := τ) (main (F := Ideal))) ⟨m, fun _ => 0, ρ⟩ (fun r =>
    ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- Every execution of the idealized kernel terminates with its result array at the layer's result `out` of the arguments
    as launched, and with the arguments unchanged. -/
theorem run : θ_run defs (onTc (τ := τ) (main (F := Ideal))) ⟨m, fun _ => 0, ρ⟩ fun r => ∀ c : Dev nD,
      r.2.mem ((c.tc : Thread nD τ).loc main_v5) = out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    have arg (a : Ref sig .tc) (ha : a ∈ argRefs) (hu : ¬ (Proc.devRef .tc a : DevRef τ sig).isScoped) :
        r.2.mem ((c.tc : Thread nD τ).loc a) = m ((c.tc : Thread nD τ).loc a) :=
      (h c _ (mem_uc a hu)).trans (W3_args m ρ c a ha)
    ⟨(h c _ (mem_uc main_v5 (by decide))).trans ((W3_arr m ρ c 3).trans (result m ρ c)),
      arg main_arg0 (by decide) (by decide), arg main_arg1 (by decide) (by decide), arg main_arg2 (by decide) (by decide),
      arg main_arg3 (by decide) (by decide), arg main_arg4 (by decide) (by decide), arg main_arg5 (by decide) (by decide)⟩)
    (run_buffers m ρ)

end Cert.KernelIdeal.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates without fault, its arguments unchanged and its semaphore counters at zero. -/
theorem frame_kernel : Cert.quiescent_Kernel := fun m ρ _ => Cert.Kernel.Gen.frame m ρ

/-- The kernel over the extended reals terminates without fault, its arguments unchanged and its semaphore counters at
    zero. -/
theorem frame_ideal : Cert.quiescent_KernelIdeal := fun m ρ _ => Cert.KernelIdeal.Gen.frame m ρ

/-- The reference over the extended reals terminates without fault, its arguments unchanged and its semaphore counters
    at zero (it has none). -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals, the kernel and the reference launched with equal arguments end with equal results, for
    every value of the arguments. -/
theorem value : Cert.algebraic_KernelIdeal_ReferenceIdeal := fun m ρ m' ρ' _ hag =>
  ⟨_, Cert.KernelIdeal.Arrays.run m ρ,
    (θ_run _ _ _).mono (fun _ h c => ⟨(h c).1.trans (by
        obtain ⟨h0, h1, h2, h3, h4, h5⟩ := hag c
        rw [h0, h1, h2, h3, h4, h5]
        exact Cert.ReferenceIdeal.Spec.ref_eq _ _ _ _ _ _), (h c).2⟩)
      (Cert.ReferenceIdeal.Value.run (F := Ideal) m' ρ')⟩

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
